-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S1000000x32 : Shape := ⟨2, ![1000000, 32]⟩
abbrev S250000x128 : Shape := ⟨2, ![250000, 128]⟩
abbrev S5000x128 : Shape := ⟨2, ![5000, 128]⟩
abbrev S_ : Shape := ⟨0, ![]⟩

abbrev nBuf : Table → Nat
  | .hbm => 4
  | .shared => 2
  | _ => 0

abbrev bufTy : (tb : Table) → Fin (nBuf tb) → BufTy
  | .hbm, ⟨0, _⟩ => ⟨S1000000x32, .f32⟩
  | .hbm, ⟨1, _⟩ => ⟨S250000x128, .f32⟩
  | .hbm, ⟨2, _⟩ => ⟨S250000x128, .f32⟩
  | .hbm, ⟨3, _⟩ => ⟨S1000000x32, .f32⟩
  | .shared, ⟨0, _⟩ => ⟨S5000x128, .f32⟩
  | .shared, ⟨1, _⟩ => ⟨S5000x128, .f32⟩
  | _, _ => ⟨S1000000x32, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scs : Ref sig .scScalar := ⟨.hbm, 1, rfl⟩
abbrev main_v1_scs : Ref sig .scScalar := ⟨.hbm, 2, rfl⟩
abbrev cc0_scratch0 : Ref sig .scScalar := ⟨.shared, 0, rfl⟩
abbrev cc0_scratch1 : Ref sig .scScalar := ⟨.shared, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def k0_off1 (i : grid0.Coords) (c0_i32 : BitVec 32) : Fin 2 → Nat :=
  let arg0 : BitVec 32 := BitVec.ofNat 32 (i 0).val
  let c125000_i32 : BitVec 32 := 125000#32
  let v0 : BitVec 32 := Scalar.muli arg0 c125000_i32
  let v1 : BitVec 32 := Scalar.addi v0 c0_i32
  let c0_i32_0 : BitVec 32 := 0#32
  ![v1.toNat, 0]
abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S1000000x32 : Shape := ⟨2, ![1000000, 32]⟩
abbrev S1000000 : Shape := ⟨1, ![1000000]⟩
abbrev S_ : Shape := ⟨0, ![]⟩
abbrev S1000000x1 : Shape := ⟨2, ![1000000, 1]⟩
abbrev S1 : Shape := ⟨1, ![1]⟩
abbrev S1x1 : Shape := ⟨2, ![1, 1]⟩

abbrev nBuf : Space → Nat
  | .hbm => 25
  | .vmem => 0
  | .smem => 0
  | _ => 0

abbrev bufTy : (tb : Table) → Fin (tcTables nBuf tb) → BufTy
  | .hbm, ⟨0, _⟩ => ⟨S1000000x32, .f32⟩
  | .hbm, ⟨1, _⟩ => ⟨S1000000, .i32⟩
  | .hbm, ⟨2, _⟩ => ⟨S_, .i32⟩
  | .hbm, ⟨3, _⟩ => ⟨S1000000, .i32⟩
  | .hbm, ⟨4, _⟩ => ⟨S1000000, .i1⟩
  | .hbm, ⟨5, _⟩ => ⟨S_, .i32⟩
  | .hbm, ⟨6, _⟩ => ⟨S1000000, .i32⟩
  | .hbm, ⟨7, _⟩ => ⟨S1000000, .i32⟩
  | .hbm, ⟨8, _⟩ => ⟨S1000000, .i32⟩
  | .hbm, ⟨9, _⟩ => ⟨S1000000x1, .i32⟩
  | .hbm, ⟨10, _⟩ => ⟨S1, .i32⟩
  | .hbm, ⟨11, _⟩ => ⟨S_, .i32⟩
  | .hbm, ⟨12, _⟩ => ⟨S1000000x1, .i32⟩
  | .hbm, ⟨13, _⟩ => ⟨S1000000x1, .i1⟩
  | .hbm, ⟨14, _⟩ => ⟨S1x1, .i32⟩
  | .hbm, ⟨15, _⟩ => ⟨S1000000x1, .i32⟩
  | .hbm, ⟨16, _⟩ => ⟨S1000000x1, .i1⟩
  | .hbm, ⟨17, _⟩ => ⟨S1000000x1, .i1⟩
  | .hbm, ⟨18, _⟩ => ⟨S_, .i1⟩
  | .hbm, ⟨19, _⟩ => ⟨S1000000, .i1⟩
  | .hbm, ⟨20, _⟩ => ⟨S1000000x32, .f32⟩
  | .hbm, ⟨21, _⟩ => ⟨S1000000x32, .i1⟩
  | .hbm, ⟨22, _⟩ => ⟨S_, .f32⟩
  | .hbm, ⟨23, _⟩ => ⟨S1000000x32, .f32⟩
  | .hbm, ⟨24, _⟩ => ⟨S1000000x32, .f32⟩
  | _, _ => ⟨S1000000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v1 : Ref sig .tc := ⟨.hbm, 24, rfl⟩

abbrev nD : Nat := 1
abbrev τ : Topo := Topo.v7x

variable {F : FTy → Type} [FloatOps F]
-- ==== Proof.Trips.lean ====
/-
  The kernel's body, written as what it is: a loop over twenty-five pieces whose trips have been laid out one
  after the other. Trip `r` has piece `r` of the operand on its way into one of two scratch buffers; it waits for it,
  starts the copy of that buffer into piece `r` of the result, waits for the copy out of the OTHER buffer started
  a trip earlier, and starts piece `r + 1` on its way into that other buffer. The next trip is the same with the
  two buffers, and their semaphores, exchanged. `body_eq` states that the printed body is this recursion.
-/
module

public import proofs.«01_k».proof.Defs
public import proofs.«01_k».proof.Proof.Gen.KernelIdeal
public import proofs.«01_k».proof.Proof.Gen.KernelIdeal.Skeleton

@[expose] public section

noncomputable section

namespace Cert.Proof.Copy

open Cert.KernelIdeal Cert.KernelIdeal.Gen
open Idealize.ShloMosaic Idealize.SL.Sem

variable {F : FTy → Type}

/-- A whole array of the call in HBM, as the scalar subcore names it; a scratch buffer; one transfer semaphore. -/
abbrev ArrM : Type := Memref sig .scScalar .hbm S250000x128 .f32
abbrev PieceM : Type := Memref sig .scScalar .hbm S5000x128 .f32
abbrev BufM : Type := Memref sig .scScalar .shared S5000x128 .f32
abbrev Cell : Type := DmaSems sig S_

/-- A program of the scalar subcore that coordinate `i` is. -/
abbrev PG (F : FTy → Type) (i : grid0.Coords) :=
  Prog (TpuEff nD τ sig (Elt F) Λ₀ (.scScalar ((i 0).castLE hcore0))) PUnit

/-- The rectangle of piece `r` of coordinate `i`'s half: 5000 rows from row `125000 i + 5000 r`. -/
abbrev rect (i : grid0.Coords) (r : ℕ) : Rect S250000x128 :=
  Rect.unit (s := S250000x128) (k0_off1 i (BitVec.ofNat 32 (5000 * (Fin.ofNat 25 r).val))) S5000x128.size (k0_off1_inb i (Fin.ofNat 25 r))

/-- Piece `r` of an array, as a memref. -/
abbrev win (i : grid0.Coords) (M : ArrM) (r : ℕ) : PieceM := M.slice (rect i r) (fun _ => rfl)

section Ops

variable (i : grid0.Coords) (x o : ArrM)

/-- Start piece `r` of the operand into buffer `A`, on semaphore `s`. -/
abbrev startIn (r : ℕ) (A : BufM) (hA : A.IsWhole) (s : Cell) (k : PG F i) : PG F i :=
  Prog.op (.enqueueDma (win i x r) (.here A) (.dma s.sem) (View.wordExact_bits rfl) hA.wordExact ⟨Or.inl rfl, trivial⟩) fun _ => k
/-- Wait for that copy. -/
abbrev waitIn (r : ℕ) (A : BufM) (hA : A.IsWhole) (s : Cell) (k : PG F i) : PG F i :=
  Prog.op (.waitDma2 s.sem (win i x r) A (View.wordExact_bits rfl) hA.wordExact) fun _ => k
/-- Start buffer `A` into piece `r` of the result, on semaphore `s`. -/
abbrev startOut (r : ℕ) (A : BufM) (hA : A.IsWhole) (s : Cell) (k : PG F i) : PG F i :=
  Prog.op (.enqueueDma A (.here (win i o r)) (.dma s.sem) hA.wordExact (View.wordExact_bits rfl) ⟨Or.inl rfl, trivial⟩) fun _ => k
/-- Wait for that copy. -/
abbrev waitOut (r : ℕ) (A : BufM) (hA : A.IsWhole) (s : Cell) (k : PG F i) : PG F i :=
  Prog.op (.waitDma2 s.sem A (win i o r) hA.wordExact (View.wordExact_bits rfl)) fun _ => k

/-- `n` trips from trip `r` on, buffer `A` the one piece `r` is on its way into, and then the last piece's: in, out, and
    the last two copies out waited for. -/
def trips : (n r : ℕ) → (A : BufM) → A.IsWhole → (B : BufM) → B.IsWhole → (iA iB oA oB : Cell) → PG F i
  | 0, r, A, hA, B, hB, iA, _, oA, oB =>
    waitIn i x r A hA iA <| startOut i o r A hA oA <| waitOut i o (r - 1) B hB oB <| waitOut i o r A hA oA <| Prog.ret ⟨⟩
  | n + 1, r, A, hA, B, hB, iA, iB, oA, oB =>
    waitIn i x r A hA iA <| startOut i o r A hA oA <| waitOut i o (r - 1) B hB oB <| startIn i x (r + 1) B hB iB <|
      trips n (r + 1) B hB A hA iB iA oB oA

/-- The whole of it: piece 0 in and on its way out, piece 1 started, and the trips from 1 to 24. -/
def copy (A : BufM) (hA : A.IsWhole) (B : BufM) (hB : B.IsWhole) (iA iB oA oB : Cell) : PG F i :=
  startIn i x 0 A hA iA <| waitIn i x 0 A hA iA <| startOut i o 0 A hA oA <| startIn i x 1 B hB iB <|
    trips i x o 23 1 B hB A hA iB iA oB oA

end Ops

set_option maxRecDepth 65536 in
/-- The printed body is `copy`. -/
theorem body_eq [FloatOps F] (i : grid0.Coords) (x : ArrM) (hx : x.IsWhole) (o : ArrM) (ho : o.IsWhole) (A : BufM) (hA : A.IsWhole) (B : BufM) (hB : B.IsWhole)
    (iA iB oA oB : Cell) :
    cc0__copy_body (F := F) i x hx o ho A hA B hB iA iB oA oB = copy i x o A hA B hB iA iB oA oB := by
  rw [cc0__copy_body_eq_skeleton]
  rfl

end Cert.Proof.Copy
-- ==== Proof.Transfer.lean ====
/-
  One scalar subcore's run through its half of the array. Each of the four operations of a trip has a lemma over any
  piece and either buffer: starting a piece in, waiting for it, starting a buffer out, waiting for it. `trips_run` puts
  them together by induction on the trips that are left, and `copy_run` states the whole: from all pieces of the operand
  at contents `X` and all pieces of the result at anything, to the pieces of the result at the same `X`.
-/
module

public import proofs.«01_k».proof.Proof.Trips
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Ring
public import Idealize.SL.BI.BigOpNat

@[expose] public section

noncomputable section

namespace Cert.Proof.Copy

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the launch's handshakes, and the transfers' counters. -/
abbrev UH : Type := URounds (GSem nD τ sig) ℕ
abbrev UU : Type := UH × Counters

local notation "𝕄" => MT nD τ sig (HIx 1) (Elt F) ℕ UU ℕ

/-- No function of the program calls another, so no variant is needed. -/
abbrev 𝒱₀ : Variants := Variants.none

/-- The operand's and the result's arrays, as the scalar subcore names them. -/
abbrev xW : ArrM := Memref.whole main_v0_scs
abbrev oW : ArrM := Memref.whole main_v1_scs

/-- What an array of that shape holds. -/
abbrev Arr (F : FTy → Type) : Type := S250000x128.Idx → Elt F .f32

section Subcore

variable (d : Dev nD) (i : grid0.Coords) (X : Arr F)

/-- The thread that runs coordinate `i`'s body on device `d`. -/
abbrev thr : Thread nD τ := S d ((i 0).castLE hcore0)

/-- Piece `r` of the operand at `X`; of the result at `f`; a buffer at `f`. -/
abbrev xP (r : ℕ) : sProp 𝕄 := (win i xW r).view.loc (thr d i) ↦[(win i xW r).view.set]{fullShare} X
abbrev oP (r : ℕ) (f : Arr F) : sProp 𝕄 := (win i oW r).view.loc (thr d i) ↦[(win i oW r).view.set]{fullShare} f
abbrev bufP (A : BufM) (f : Buf (Elt F) (A.view.loc (thr d i))) : sProp 𝕄 := A.view.loc (thr d i) ↦[A.view.set]{fullShare} f
/-- A buffer at anything; a semaphore at zero. -/
abbrev bufE (A : BufM) : sProp 𝕄 := iprop(∃ f, bufP (F := F) d i A f)
abbrev cell0 (s : Cell) : sProp 𝕄 := semVal (thr d i, .dma s.sem) 0

/-- Buffer `A` holding piece `r` of the operand. -/
def filled (r : ℕ) (A : BufM) : sProp 𝕄 :=
  iprop(∃ f : Buf (Elt F) (A.view.loc (thr d i)), ⌜A.view.read (Elt F) f = (win i xW r).view.read (Elt F) X⌝ ∗ bufP d i A f)

/-- Piece `r` on its way into `A`, and buffer `A` on its way into piece `r`, on semaphore `s`: what each delivers. -/
def inFl (r : ℕ) (A : BufM) (s : Cell) : sProp 𝕄 :=
  Transfers.Flight countersEmb (thr d i) (.dma s.sem) (none : HIx 1) (A.view.amount (.dma s.sem)) iprop(filled d i X r A ∗ xP d i X r)
def outFl (r : ℕ) (A : BufM) (s : Cell) : sProp 𝕄 :=
  Transfers.Flight countersEmb (thr d i) (.dma s.sem) (none : HIx 1) ((win i oW r).view.amount (.dma s.sem)) iprop(oP d i r X ∗ bufE d i A)

/-- What the thread owes its launch, with whatever waits it has recorded. -/
abbrev owesE (O : CellTallies nD τ sig (HIx 1)) : sProp 𝕄 := iprop(∃ W, owes (thr d i) O W)

/-- Writing into piece `r` of the result what piece `r` of `X` reads puts `X` there. -/
theorem write_piece (r : ℕ) (f : Arr F) (w : S5000x128.Idx → Elt F .f32) (hw : w = (win i xW r).view.read (Elt F) X) :
    oP d i r ((win i oW r).view.write (Elt F) f w Finset.univ) = oP d i r X := by
  refine pointsTo_congr fun y hy => ?_
  obtain ⟨z, -, rfl⟩ := Finset.mem_map.mp hy
  rw [View.write_emb_of_mem _ _ (Finset.mem_univ z), hw]
  rfl

/-- Every execution of `k` on the thread ends, and at its end `Q` holds. -/
abbrev wpS (k : PG F i) (Q : PUnit.{1} → sProp 𝕄) : sProp 𝕄 := wp frame (wpE (defs₀ (F := F)) 𝒱₀ (thr d i) none) Set.univ k Q

/-- Starting piece `r` into buffer `A`. -/
theorem startIn_run (r : ℕ) (A : BufM) (hA : A.IsWhole) (s : Cell) (k : PG F i) (Q : PUnit.{1} → sProp 𝕄) :
    iprop(xP d i X r ∗ bufE d i A ∗ cell0 d i s) ⊢ iprop((inFl d i X r A s -∗ wpS d i k Q) -∗ wpS d i (startIn i xW r A hA s k) Q) := by
  iintro ⟨Hx, ⟨%f, HA⟩, Hs⟩ Hk
  iapply (Transfers.wp_dmaLocal countersEmb 𝒱₀ (thr d i) none (none : HIx 1) (A.view.amount (.dma s.sem)) rfl
    (View.amount_pos _ _ (show 0 < S5000x128.numel by decide)) (Finset.Subset.refl _)) $$ [Hx HA Hs]
  · isplitl [Hx]; · iexact Hx
    isplitl [HA]; · iexact HA
    iexact Hs
  iintro HF
  iapply Hk
  unfold inFl
  iapply (Transfers.Flight_mono countersEmb (thr d i) ?_) $$ HF
  iintro ⟨HA, Hx⟩
  isplitl [HA]
  · unfold filled
    iexists A.view.write (Elt F) f ((win i xW r).view.read (Elt F) X) Finset.univ
    isplitr
    · ipureintro; exact View.read_write_univ _ _
    · iexact HA
  · iexact Hx

/-- Starting buffer `A`, which holds piece `r`, into piece `r` of the result. -/
theorem startOut_run (r : ℕ) (A : BufM) (hA : A.IsWhole) (s : Cell) (k : PG F i) (Q : PUnit.{1} → sProp 𝕄) :
    iprop(filled d i X r A ∗ (∃ f, oP d i r f) ∗ cell0 d i s) ⊢ iprop((outFl d i X r A s -∗ wpS d i k Q) -∗ wpS d i (startOut i oW r A hA s k) Q) := by
  unfold filled
  iintro ⟨⟨%g, %hg, HA⟩, ⟨%f, Ho⟩, Hs⟩ Hk
  iapply (Transfers.wp_dmaLocal countersEmb 𝒱₀ (thr d i) none (none : HIx 1) ((win i oW r).view.amount (.dma s.sem)) rfl
    (View.amount_pos _ _ (show 0 < S5000x128.numel by decide)) (Finset.Subset.refl _)) $$ [Ho HA Hs]
  · isplitl [HA]; · iexact HA
    isplitl [Ho]; · iexact Ho
    iexact Hs
  iintro HF
  iapply Hk
  unfold outFl
  iapply (Transfers.Flight_mono countersEmb (thr d i) ?_) $$ HF
  iintro ⟨Ho, HA⟩
  isplitl [Ho]
  · iapply (Entails.of_eq (write_piece d i X r f _ hg)); iexact Ho
  · iexists g; iexact HA

variable (O : CellTallies nD τ sig (HIx 1))

/-- Waiting for piece `r` in `A`. -/
theorem waitIn_run (r : ℕ) (A : BufM) (hA : A.IsWhole) (s : Cell) (k : PG F i) (Q : PUnit.{1} → sProp 𝕄) :
    iprop(Transfers.MayWaits (thr d i) (none : HIx 1) O ∗ inFl d i X r A s ∗ owesE d i O)
      ⊢ iprop((iprop(filled d i X r A ∗ xP d i X r ∗ cell0 d i s ∗ owesE d i O) -∗ wpS d i k Q) -∗ wpS d i (waitIn i xW r A hA s k) Q) := by
  unfold inFl
  iintro ⟨Hm, HF, %W, HO⟩ Hk
  ihave Hw := (Transfers.MayWaits.elim (SemLoc.dma s.sem)) $$ Hm
  iapply (Transfers.wp_waitLocalO countersEmb 𝒱₀ (thr d i) none (none : HIx 1) rfl) $$ [HF HO Hw]
  · isplitl [HF]; · iexact HF
    isplitl [HO] <;> iassumption
  iintro ⟨⟨HA, Hx⟩, Hs, HO⟩
  iapply Hk
  isplitl [HA]; · iexact HA
  isplitl [Hx]; · iexact Hx
  isplitl [Hs]; · iexact Hs
  iexists _; iexact HO

/-- Waiting for buffer `A` in piece `r` of the result. -/
theorem waitOut_run (r : ℕ) (A : BufM) (hA : A.IsWhole) (s : Cell) (k : PG F i) (Q : PUnit.{1} → sProp 𝕄) :
    iprop(Transfers.MayWaits (thr d i) (none : HIx 1) O ∗ outFl d i X r A s ∗ owesE d i O)
      ⊢ iprop((iprop(oP d i r X ∗ bufE d i A ∗ cell0 d i s ∗ owesE d i O) -∗ wpS d i k Q) -∗ wpS d i (waitOut i oW r A hA s k) Q) := by
  unfold outFl
  iintro ⟨Hm, HF, %W, HO⟩ Hk
  ihave Hw := (Transfers.MayWaits.elim (SemLoc.dma s.sem)) $$ Hm
  iapply (Transfers.wp_waitLocalO countersEmb 𝒱₀ (thr d i) none (none : HIx 1) rfl) $$ [HF HO Hw]
  · isplitl [HF]; · iexact HF
    isplitl [HO] <;> iassumption
  iintro ⟨⟨Ho, HA⟩, Hs, HO⟩
  iapply Hk
  isplitl [Ho]; · iexact Ho
  isplitl [HA]; · iexact HA
  isplitl [Hs]; · iexact Hs
  iexists _; iexact HO

/-- Piece `r` before it is copied, and after. -/
abbrev todo (r : ℕ) : sProp 𝕄 := iprop(xP d i X r ∗ ∃ f, oP d i r f)
abbrev done (r : ℕ) : sProp 𝕄 := iprop(xP d i X r ∗ oP d i r X)

/-- The two buffers at anything, the four semaphores at zero. -/
abbrev idle (A B : BufM) (iA iB oA oB : Cell) : sProp 𝕄 :=
  iprop(bufE d i A ∗ bufE d i B ∗ cell0 d i iA ∗ cell0 d i iB ∗ cell0 d i oA ∗ cell0 d i oB)

/-- `n` trips from trip `r + 1` on and the last piece's, which is piece `r + 1 + n = 24`: piece `r + 1` on its way into `A`,
    piece `r` on its way out of `B`, the pieces from `r + 2` on to be copied; then every piece from `r` on is copied. -/
theorem trips_run (n : ℕ) : ∀ (r : ℕ) (_ : r + 1 + n = 24) (A : BufM) (hA : A.IsWhole) (B : BufM) (hB : B.IsWhole) (iA iB oA oB : Cell) (Q : PUnit.{1} → sProp 𝕄),
    iprop(Transfers.MayWaits (thr d i) (none : HIx 1) O ∗ inFl d i X (r + 1) A iA ∗ (∃ f, oP d i (r + 1) f) ∗ outFl d i X r B oB ∗ xP d i X r
        ∗ cell0 d i iB ∗ cell0 d i oA ∗ owesE d i O ∗ bigSep (Finset.Ico (r + 2) 25) (todo d i X))
      ⊢ iprop((iprop(bigSep (Finset.Ico r 25) (done d i X) ∗ idle d i A B iA iB oA oB ∗ owesE d i O) -∗ Q ⟨⟩)
          -∗ wpS d i (trips i xW oW n (r + 1) A hA B hB iA iB oA oB) Q) := by
  induction n with
  | zero =>
    intro r hr A hA B hB iA iB oA oB Q
    obtain rfl : r = 23 := by omega
    rw [bigSep_Ico_succ_bot (show 23 < 25 by decide), bigSep_Ico_one 24]
    iintro ⟨#Hm, HI, Ho, HO', Hx, HiB, HoA, HO, -⟩ HQ
    iapply (waitIn_run d i X O 24 A hA iA _) $$ [HI HO]
    · isplitr; · iexact Hm
      isplitl [HI] <;> iassumption
    iintro ⟨HA, Hx', HiA, HO⟩
    iapply (startOut_run d i X 24 A hA oA _) $$ [HA Ho HoA]
    · isplitl [HA]; · iexact HA
      isplitl [Ho] <;> iassumption
    iintro HI
    iapply (waitOut_run d i X O 23 B hB oB _) $$ [HO' HO]
    · isplitr; · iexact Hm
      isplitl [HO'] <;> iassumption
    iintro ⟨Ho, HB, HoB, HO⟩
    iapply (waitOut_run d i X O 24 A hA oA _) $$ [HI HO]
    · isplitr; · iexact Hm
      isplitl [HI] <;> iassumption
    iintro ⟨Ho', HA, HoA, HO⟩
    unfold wpS; rw [wp_ret]
    imodintro
    iapply HQ
    isplitl [Hx Ho Hx' Ho']
    · isplitl [Hx Ho]
      · isplitl [Hx] <;> iassumption
      · isplitl [Hx'] <;> iassumption
    isplitr [HO]
    · isplitl [HA]; · iexact HA
      isplitl [HB]; · iexact HB
      isplitl [HiA]; · iexact HiA
      isplitl [HiB]; · iexact HiB
      isplitl [HoA] <;> iassumption
    iexact HO
  | succ n ih =>
    intro r hr A hA B hB iA iB oA oB Q
    rw [bigSep_Ico_succ_bot (show r + 2 < 25 by omega), bigSep_Ico_succ_bot (show r < 25 by omega)]
    iintro ⟨#Hm, HI, Ho, HO', Hx, HiB, HoA, HO, ⟨Hx2, Ho2⟩, Htodo⟩ HQ
    iapply (waitIn_run d i X O (r + 1) A hA iA _) $$ [HI HO]
    · isplitr; · iexact Hm
      isplitl [HI] <;> iassumption
    iintro ⟨HA, Hx', HiA, HO⟩
    iapply (startOut_run d i X (r + 1) A hA oA _) $$ [HA Ho HoA]
    · isplitl [HA]; · iexact HA
      isplitl [Ho] <;> iassumption
    iintro HA
    iapply (waitOut_run d i X O r B hB oB _) $$ [HO' HO]
    · isplitr; · iexact Hm
      isplitl [HO'] <;> iassumption
    iintro ⟨Ho, HB, HoB, HO⟩
    iapply (startIn_run d i X (r + 2) B hB iB _) $$ [Hx2 HB HiB]
    · isplitl [Hx2]; · iexact Hx2
      isplitl [HB] <;> iassumption
    iintro HB
    iapply (ih (r + 1) (by omega) B hB A hA iB iA oB oA) $$ [HB Ho2 HA Hx' HiA HoB HO Htodo]
    · isplitr; · iexact Hm
      isplitl [HB]; · iexact HB
      isplitl [Ho2]; · iexact Ho2
      isplitl [HA]; · iexact HA
      isplitl [Hx']; · iexact Hx'
      isplitl [HiA]; · iexact HiA
      isplitl [HoB]; · iexact HoB
      isplitl [HO]; · iexact HO
      iexact Htodo
    iintro ⟨Hd, ⟨HB, HA, HiB, HiA, HoB, HoA⟩, HO⟩
    iapply HQ
    isplitl [Hx Ho Hd]
    · isplitl [Hx Ho]
      · isplitl [Hx] <;> iassumption
      · iexact Hd
    isplitr [HO]
    · isplitl [HA]; · iexact HA
      isplitl [HB]; · iexact HB
      isplitl [HiA]; · iexact HiA
      isplitl [HiB]; · iexact HiB
      isplitl [HoA] <;> iassumption
    iexact HO

/-- The whole body: from every piece to be copied to every piece copied. -/
theorem copy_run (A : BufM) (hA : A.IsWhole) (B : BufM) (hB : B.IsWhole) (iA iB oA oB : Cell) :
    iprop(Transfers.MayWaits (thr d i) (none : HIx 1) O ∗ bigSep (Finset.Ico 0 25) (todo d i X) ∗ idle d i A B iA iB oA oB ∗ owesE d i O)
      ⊢ wpS d i (copy i xW oW A hA B hB iA iB oA oB) fun _ =>
          iprop(bigSep (Finset.Ico 0 25) (done d i X) ∗ idle d i A B iA iB oA oB ∗ owesE d i O) := by
  rw [bigSep_Ico_succ_bot (A := todo d i X) (show 0 < 25 by decide), bigSep_Ico_succ_bot (A := todo d i X) (show 0 + 1 < 25 by decide)]
  iintro ⟨#Hm, ⟨⟨Hx0, Ho0⟩, ⟨Hx1, Ho1⟩, Htodo⟩, ⟨HA, HB, HiA, HiB, HoA, HoB⟩, HO⟩
  unfold copy
  iapply (startIn_run d i X 0 A hA iA _) $$ [Hx0 HA HiA]
  · isplitl [Hx0]; · iexact Hx0
    isplitl [HA] <;> iassumption
  iintro HA
  iapply (waitIn_run d i X O 0 A hA iA _) $$ [HA HO]
  · isplitr; · iexact Hm
    isplitl [HA] <;> iassumption
  iintro ⟨HA, Hx0, HiA, HO⟩
  iapply (startOut_run d i X 0 A hA oA _) $$ [HA Ho0 HoA]
  · isplitl [HA]; · iexact HA
    isplitl [Ho0] <;> iassumption
  iintro HA
  iapply (startIn_run d i X 1 B hB iB _) $$ [Hx1 HB HiB]
  · isplitl [Hx1]; · iexact Hx1
    isplitl [HB] <;> iassumption
  iintro HB
  iapply (trips_run d i X O 23 0 rfl B hB A hA iB iA oB oA) $$ [HB Ho1 HA Hx0 HiA HoB HO Htodo]
  · isplitr; · iexact Hm
    isplitl [HB]; · iexact HB
    isplitl [Ho1]; · iexact Ho1
    isplitl [HA]; · iexact HA
    isplitl [Hx0]; · iexact Hx0
    isplitl [HiA]; · iexact HiA
    isplitl [HoB]; · iexact HoB
    isplitl [HO]; · iexact HO
    iexact Htodo
  iintro ⟨Hd, ⟨HB, HA, HiB, HiA, HoB, HoA⟩, HO⟩
  isplitl [Hd]; · iexact Hd
  isplitr [HO]
  · isplitl [HA]; · iexact HA
    isplitl [HB]; · iexact HB
    isplitl [HiA]; · iexact HiA
    isplitl [HiB]; · iexact HiB
    isplitl [HoA] <;> iassumption
  iexact HO

end Subcore

end Cert.Proof.Copy
-- ==== Proof.Pieces.lean ====
/-
  The fifty pieces of the array: twenty-five to a scalar subcore, each 5000 whole rows. A row belongs to exactly one piece,
  the one numbered by the row's quotient by 5000, so an array held whole is its fifty pieces held apart.
-/
module

public import proofs.«01_k».proof.Proof.Transfer

@[expose] public section

noncomputable section

namespace Cert.Proof.Copy

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The grid's coordinate of scalar subcore `c`. -/
def coords (c : Fin (grid0.bound 0)) : grid0.Coords := fun | 0 => c | ⟨_ + 1, h⟩ => absurd h (Nat.not_lt.2 (Nat.le_add_left _ _))

/-- An index is in piece `r` of subcore `c` when its row's quotient by 5000 is `25 c + r`. -/
theorem mem_rect (c : Fin (grid0.bound 0)) (r : ℕ) (hr : r < 25) (y : S250000x128.Idx) :
    y ∈ (rect (coords c) r).set ↔ (y 0).val / 5000 = 25 * c.val + r := by
  have h0 : (Fin.ofNat 25 r).val = r := Nat.mod_eq_of_lt hr
  have hc : ((coords c) 0).val = c.val := rfl
  unfold rect
  rw [Rect.mem_set_unit, k0_off1_eq, h0, hc]
  have h1 : (y 1).val < 128 := (y 1).isLt
  constructor
  · intro h
    have := h 0
    simp only [Matrix.cons_val_zero, show S5000x128.size 0 = 5000 from rfl] at this
    omega
  · intro h a
    fin_cases a
    · simp only [Fin.zero_eta, Matrix.cons_val_zero, show S5000x128.size 0 = 5000 from rfl]
      omega
    · simp only [Fin.mk_one, Matrix.cons_val_one, Matrix.cons_val_fin_one, show S5000x128.size 1 = 128 from rfl]
      omega

/-- What subcore `c` copies: its twenty-five pieces together. -/
abbrev half (c : Fin (grid0.bound 0)) : Finset S250000x128.Idx := (Finset.Ico 0 25).biUnion fun r => (rect (coords c) r).set

theorem mem_half (c : Fin (grid0.bound 0)) (y : S250000x128.Idx) : y ∈ half c ↔ (y 0).val / 5000 / 25 = c.val := by
  simp only [half, Finset.mem_biUnion, Finset.mem_Ico]
  constructor
  · rintro ⟨r, ⟨-, hr⟩, hy⟩
    rw [mem_rect c r hr] at hy
    omega
  · intro h
    refine ⟨(y 0).val / 5000 % 25, ⟨Nat.zero_le _, Nat.mod_lt _ (by decide)⟩, ?_⟩
    rw [mem_rect c _ (Nat.mod_lt _ (by decide))]
    omega

/-- Two different pieces of one half have no place in common. -/
theorem rect_disjoint (c : Fin (grid0.bound 0)) : ∀ r ∈ Finset.Ico 0 25, ∀ r' ∈ Finset.Ico 0 25, r ≠ r' →
    Disjoint (rect (coords c) r).set (rect (coords c) r').set := by
  intro r hr r' hr' hne
  rw [Finset.mem_Ico] at hr hr'
  refine Finset.disjoint_left.mpr fun y hy hy' => hne ?_
  rw [mem_rect c r hr.2] at hy
  rw [mem_rect c r' hr'.2] at hy'
  omega

/-- The two halves have no place in common. -/
theorem half_disjoint : ∀ c ∈ (Finset.univ : Finset (Fin (grid0.bound 0))), ∀ c' ∈ (Finset.univ : Finset (Fin (grid0.bound 0))), c ≠ c' →
    Disjoint (half c) (half c') := by
  intro c _ c' _ hne
  refine Finset.disjoint_left.mpr fun y hy hy' => hne (Fin.ext ?_)
  rw [mem_half] at hy hy'
  omega

/-- The two halves together are the whole array. -/
theorem half_cover : (Finset.univ : Finset (Fin (grid0.bound 0))).biUnion half = Finset.univ := by
  refine Finset.eq_univ_of_forall fun y => ?_
  have h0 : (y 0).val < 250000 := (y 0).isLt
  rw [Finset.mem_biUnion]
  exact ⟨⟨(y 0).val / 5000 / 25, show _ < 2 by omega⟩, Finset.mem_univ _, (mem_half _ y).mpr rfl⟩

/-- The operand's array and the result's, as the TensorCore names them. -/
abbrev xLoc (d : Dev nD) : Loc nD τ sig := (SparseCore.T d).loc main_v0
abbrev oLoc (d : Dev nD) : Loc nD τ sig := (SparseCore.T d).loc main_v1

/-- The operand's array held whole is its fifty pieces held apart, each as its subcore names it. -/
theorem x_pieces (d : Dev nD) (f : Arr F) :
    (xLoc d ↦{fullShare} f : sProp 𝕄) = bigSep Finset.univ fun c => bigSep (Finset.Ico 0 25) (xP d (coords c) f) :=
  (congrArg (fun s : Finset S250000x128.Idx => (xLoc d ↦[s]{fullShare} f : sProp 𝕄)) half_cover.symm).trans
    ((pointsTo_biUnion _ _ half_disjoint).trans (bigSep_congr fun c _ => (pointsTo_biUnion _ _ (rect_disjoint c)).trans
      (bigSep_congr fun r _ => congrArg (fun s : Finset S250000x128.Idx => (xLoc d ↦[s]{fullShare} f : sProp 𝕄))
        (View.set_slice_whole main_v0_scs (rect (coords c) r)).symm)))

/-- The result's likewise. -/
theorem o_pieces (d : Dev nD) (f : Arr F) :
    (oLoc d ↦{fullShare} f : sProp 𝕄) = bigSep Finset.univ fun c => bigSep (Finset.Ico 0 25) fun r => oP d (coords c) r f :=
  (congrArg (fun s : Finset S250000x128.Idx => (oLoc d ↦[s]{fullShare} f : sProp 𝕄)) half_cover.symm).trans
    ((pointsTo_biUnion _ _ half_disjoint).trans (bigSep_congr fun c _ => (pointsTo_biUnion _ _ (rect_disjoint c)).trans
      (bigSep_congr fun r _ => congrArg (fun s : Finset S250000x128.Idx => (oLoc d ↦[s]{fullShare} f : sProp 𝕄))
        (View.set_slice_whole main_v1_scs (rect (coords c) r)).symm)))

/-- The two arrays whole, the result at anything, are every piece to be copied; -/
theorem todo_of_whole (d : Dev nD) (X f : Arr F) :
    (iprop((xLoc d ↦{fullShare} X) ∗ oLoc d ↦{fullShare} f) : sProp 𝕄)
      ⊢ bigSep Finset.univ fun c => bigSep (Finset.Ico 0 25) (todo d (coords c) X) := by
  rw [x_pieces, o_pieces, ← bigSep_sep']
  refine bigSep_mono fun c _ => ?_
  rw [← bigSep_sep']
  refine bigSep_mono fun r _ => ?_
  show (iprop(xP d (coords c) X r ∗ oP d (coords c) r f) : sProp 𝕄) ⊢ todo d (coords c) X r
  iintro ⟨Hx, Ho⟩
  isplitl [Hx]; · iexact Hx
  iexists f; iexact Ho

/-- every piece copied is the two arrays whole, both at the operand. -/
theorem whole_of_done (d : Dev nD) (X : Arr F) :
    (bigSep Finset.univ fun c => bigSep (Finset.Ico 0 25) (done d (coords c) X) : sProp 𝕄)
      = iprop((xLoc d ↦{fullShare} X) ∗ oLoc d ↦{fullShare} X) := by
  rw [x_pieces, o_pieces, ← bigSep_sep']
  exact bigSep_congr fun c _ => bigSep_sep' _ _ _

end Cert.Proof.Copy
-- ==== Proof.Launch.lean ====
/-
  The whole program's run, at any float values: the operand reshaped to 128 columns, the call handing each of the two scalar
  subcores its twenty-five pieces of operand and result, the result reshaped back. Every execution ends with the
  result equal to the operand, the operand as it was, and every semaphore's counter at zero (`run_main`).
-/
module

public import proofs.«01_k».proof.Proof.Pieces

@[expose] public section

noncomputable section

namespace Cert.Proof.Copy

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

/-! ## The program as the launch takes it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

omit [FloatOps F] in
/-- The launch's set-up meets the conditions asked of it. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the ghost state's left factor. -/
abbrev EH : Emb UH (MT nD τ sig (HIx 1) (Elt F) ℕ UU ℕ) := embL

variable (m : (ℓ : Loc nD τ sig) → Buf (Elt F) ℓ) (ρ : Dev nD → PrngReg)

abbrev aLoc (d : Dev nD) : Loc nD τ sig := (SparseCore.T d).loc main_arg0
abbrev rLoc (d : Dev nD) : Loc nD τ sig := (SparseCore.T d).loc main_v2

/-- The operand of device `d` at 128 columns: what the call is given. -/
def wide (d : Dev nD) : Arr F := fun j => shapeCast S250000x128 (m (aLoc d) : S1000000x32.Idx → Elt F .f32) shapeCasts_S1000000x32_S250000x128 j

/-- What the call hands each scalar subcore, and what it gets back: that subcore's pieces. -/
def P : (K (F := F)).Pay (nD := nD) (Val := Elt F) (Name := ℕ) (U := UU) where
  st := fun q d c => match q, c with | 0, c => bigSep (Finset.Ico 0 25) (todo d (coords c) (wide m d))
  dn := fun q d c => match q, c with | 0, c => bigSep (Finset.Ico 0 25) (done d (coords c) (wide m d))
  go := fun _ _ _ _ => iprop(emp)
  td := fun _ _ _ _ => iprop(emp)
  x := fun _ _ => iprop(emp)

/-- What passes between the host program and the subcores may be stored at a semaphore. -/
instance P_storable : (P (F := F) m).IsStorable where
  st q d c := by match q with | 0 => unfold P; infer_instance
  dn q d c := by match q with | 0 => unfold P; infer_instance
  go _ _ _ _ := by unfold P; infer_instance
  td _ _ _ _ := by unfold P; infer_instance

/-! ## A subcore's own buffers and semaphores -/

section Own

variable (d : Dev nD) (c : Fin τ.nSC)

abbrev bufLoc0 : Loc nD τ sig := (S d c).loc cc0_scratch0
abbrev bufLoc1 : Loc nD τ sig := (S d c).loc cc0_scratch1
abbrev dref (b : Ref sig .scScalar) : DevRef τ sig := (Proc.scScalar c : Proc τ).devRef b

omit [FloatOps F] in
/-- The two scratch buffers are among the subcore's own: it is they, at some contents, and the rest. -/
theorem ownBufs_S :
    (ownBufs (S d c) : sProp 𝕄)
      = iprop((∃ f, bufLoc0 d c ↦{fullShare} f) ∗ (∃ f, bufLoc1 d c ↦{fullShare} f)
          ∗ bigSep (((ownRefs (τ := τ) (.scScalar c)).erase (dref c cc0_scratch0)).erase (dref c cc0_scratch1)) fun b => iprop(∃ f, ((d, b) : Loc nD τ sig) ↦{fullShare} f)) := by
  have hne : dref c cc0_scratch1 ≠ dref c cc0_scratch0 := by revert c; decide
  unfold SparseCore.Cfg.ownBufs
  rw [SparseCore.bigSep_erase' ((mem_ownRefs (p := Proc.scScalar c) (b := dref c cc0_scratch0)).mpr rfl),
    SparseCore.bigSep_erase' (Finset.mem_erase.mpr ⟨hne, (mem_ownRefs (p := Proc.scScalar c) (b := dref c cc0_scratch1)).mpr rfl⟩)]

/-- The four transfer semaphores, in the order the body takes them. -/
abbrev cell : Fin 4 → Cell := ![cc0_scratch2, cc0_scratch3, cc0_scratch4, cc0_scratch5]
abbrev cellG (k : Fin 4) : GSem nD τ sig := (S d c, .dma (cell k).sem)

theorem cell_inj : ∀ k k' : Fin 4, (SemLoc.dma (cell k).sem : SemLoc sig) = .dma (cell k').sem → k = k' := by decide

omit [FloatOps F] in
/-- Each of the four transfer semaphores is one of the subcore's own. -/
theorem cellG_mem (k : Fin 4) : cellG d c k ∈ ownCells (S d c) :=
  mem_ownCells.mpr ⟨rfl, (show ∀ s : DmaSem sig, (SemLoc.dma s : SemLoc sig).isScoped .scScalar = true by decide) _⟩

omit [FloatOps F] in
/-- The subcore's own semaphores at zero: those four, one by one, and the rest. -/
theorem ownSems0_S :
    (ownSems0 (S d c) : sProp 𝕄)
      = iprop((semVal (cellG d c 0) 0 ∗ semVal (cellG d c 1) 0 ∗ semVal (cellG d c 2) 0 ∗ semVal (cellG d c 3) 0)
          ∗ bigSep ((ownCells (S d c)) \ Finset.univ.image (cellG d c)) fun g => semVal g 0) := by
  unfold SparseCore.Cfg.ownSems0
  rw [SparseCore.bigSep_sdiff_split' (t := Finset.univ.image (cellG d c)) (Finset.image_subset_iff.mpr fun k _ => cellG_mem d c k),
    SparseCore.bigSep_image_of_injOn (fun a _ b _ h => cell_inj a b (congrArg (fun g : GSem nD τ sig => g.2) h))]
  rw [show (Finset.univ : Finset (Fin 4)) = {0, 1, 2, 3} by decide,
    SparseCore.bigSep_insert' (by decide), SparseCore.bigSep_insert' (by decide), SparseCore.bigSep_insert' (by decide), bigSep_singleton]

end Own

/-! ## The call's obligation -/

abbrev bufA : BufM := Memref.whole cc0_scratch0
abbrev bufB : BufM := Memref.whole cc0_scratch1

omit [FloatOps F] in
/-- A scratch buffer whole, as the subcore's memref names it. -/
theorem bufE_A (d : Dev nD) (i : grid0.Coords) : bufE (F := F) d i bufA = iprop(∃ f, bufLoc0 d ((i 0).castLE hcore0) ↦{fullShare} f) := by
  unfold bufE bufP; rw [View.set_whole]
omit [FloatOps F] in
/-- The second scratch buffer at anything, as the subcore's memref names it, is the buffer at anything. -/
theorem bufE_B (d : Dev nD) (i : grid0.Coords) : bufE (F := F) d i bufB = iprop(∃ f, bufLoc1 d ((i 0).castLE hcore0) ↦{fullShare} f) := by
  unfold bufE bufP; rw [View.set_whole]

/-- Subcore `c`'s part of the call: from its pieces to be copied to its pieces copied, its buffers and semaphores its own
    again. -/
theorem body_run (d : Dev nD) (c : Fin (grid0.bound 0)) (O : CellTallies nD τ sig (HIx 1)) (W : Waits sig (HIx 1)) (hO : ∀ g, O g none = 0) :
    iprop(levAts (K (F := F)).L (K (F := F)).lev ∗ emp ∗ bigSep (Finset.Ico 0 25) (todo d (coords c) (wide m d))
        ∗ scopedBufs (thr d (coords c)) ∗ scopedSems0 (thr d (coords c)) ∗ owes (thr d (coords c)) O W)
      ⊢ wp frame (wpE (defs₀ (F := F)) 𝒱₀ (thr d (coords c)) none) Set.univ
          (cc0__copy_body (coords c) xW (Memref.isWhole_whole _) oW (Memref.isWhole_whole _) bufA (Memref.isWhole_whole _) bufB (Memref.isWhole_whole _)
            cc0_scratch2 cc0_scratch3 cc0_scratch4 cc0_scratch5)
          fun _ => iprop(bigSep (Finset.Ico 0 25) (done d (coords c) (wide m d)) ∗ scopedBufs (thr d (coords c)) ∗ scopedSems0 (thr d (coords c))
            ∗ ∃ W', ⌜∀ p ∈ W', p ∈ W ∨ p.2 = none ∨ p.2 = some (0 : Fin 1)⌝ ∗ owes (thr d (coords c)) O W') := by
  rw [body_eq, (K (F := F)).scopedBufs_S facts d _, SparseCore.Cfg.scopedSems0_S (Val := Elt F) d _, ownSems0_S, ownBufs_S]
  iintro ⟨#Hlv, -, Htodo, ⟨⟨HA, HB, Hbufs⟩, Htiles⟩, ⟨⟨⟨H0, H1, H2, H3⟩, Hsems⟩, HtileSems⟩, HO⟩
  ihave Hmw := ((K (F := F)).mayWaits_none (thr := thr d (coords c)) hO) $$ Hlv
  iapply (wp_wand_r Idealize.ShloMosaic.frame (wpE (defs₀ (F := F)) 𝒱₀ (thr d (coords c)) none) Set.univ)
  isplitl [Htodo HA HB H0 H1 H2 H3 HO]
  · iapply (copy_run d (coords c) (wide m d) O bufA _ bufB _ cc0_scratch2 cc0_scratch3 cc0_scratch4 cc0_scratch5)
    isplitr; · iexact Hmw
    isplitl [Htodo]; · iexact Htodo
    isplitr [HO]
    · isplitl [HA]; · iapply (Entails.of_eq (bufE_A (F := F) d (coords c)).symm); iexact HA
      isplitl [HB]; · iapply (Entails.of_eq (bufE_B (F := F) d (coords c)).symm); iexact HB
      isplitl [H0]; · iexact H0
      isplitl [H1]; · iexact H1
      isplitl [H2]; · iexact H2
      iexact H3
    iexists W; iexact HO
  iintro %_ ⟨Hdone, ⟨HA, HB, H0, H1, H2, H3⟩, %W', HO⟩
  isplitl [Hdone]; · iexact Hdone
  isplitl [HA HB Hbufs Htiles]
  · isplitr [Htiles]
    · isplitl [HA]; · iapply (Entails.of_eq (bufE_A (F := F) d (coords c))); iexact HA
      isplitl [HB]; · iapply (Entails.of_eq (bufE_B (F := F) d (coords c))); iexact HB
      iexact Hbufs
    iexact Htiles
  isplitl [H0 H1 H2 H3 Hsems HtileSems]
  · isplitr [HtileSems]
    · isplitr [Hsems]
      · isplitl [H0]; · iexact H0
        isplitl [H1]; · iexact H1
        isplitl [H2]; · iexact H2
        iexact H3
      iexact Hsems
    iexact HtileSems
  iexists W'; isplitr
  · ipureintro; intro p _
    rcases p.2 with _ | q
    · exact .inr (.inl rfl)
    · exact .inr (.inr (congrArg some (Subsingleton.elim q 0)))
  · iexact HO

/-- What a scalar subcore runs in the call is the kernel's body at its own coordinate. -/
theorem defs₀_scalar (c : Fin τ.nSC) :
    defs₀ (F := F) (.scScalar c) 0 ()
      = SparseCore.onCore hcore0 (fun c => cc0__copy_body (coords c) xW (Memref.isWhole_whole _) oW (Memref.isWhole_whole _)
          bufA (Memref.isWhole_whole _) bufB (Memref.isWhole_whole _) cc0_scratch2 cc0_scratch3 cc0_scratch4 cc0_scratch5) ⟨⟩ c := rfl

set_option maxRecDepth 65536 in
/-- The call's obligation: each subcore of the grid runs `body_run`. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact body_run m d c O W hO

/-! ## The launch's ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [show (bigSep Finset.univ fun _ : Dev nD => iprop(emp)) = (iprop(emp) : sProp 𝕄) from bigSep_emp_const _]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1),
    show (bigSep Finset.univ fun _ : Thread nD τ => iprop(emp)) = (iprop(emp) : sProp 𝕄) from bigSep_emp_const _]
  iempintro

/-! ## The host program -/

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev opIn : HloOp τ sig (Elt F) := StableHlo.reshape main_arg0 main_v0 (rfl : (.f32 : EltTy) = .f32) shapeCasts_S1000000x32_S250000x128
abbrev opOut : HloOp τ sig (Elt F) := StableHlo.reshape main_v1 main_v2 (rfl : (.f32 : EltTy) = .f32) shapeCasts_S250000x128_S1000000x32

/-- The host program's four arrays: the operand, its reshape, the call's result, the result. -/
abbrev S4 : Finset (DevRef τ sig) := {a', x', o', r'}

omit [FloatOps F] in
/-- The four arrays held together are the four held one by one. -/
theorem held_S4 (d : Dev nD) (W : Valuation τ sig (Elt F)) :
    (held (SparseCore.T d) S4 W : sProp 𝕄) = iprop((aLoc d ↦{fullShare} W a') ∗ (xLoc d ↦{fullShare} W x') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

omit [FloatOps F] in
/-- What the host program is given at the launch is its four arrays. -/
theorem unscopedBufs_eq (d : Dev nD) (W : (b : Ref sig .tc) → Buf (Elt F) ((d.tc : Thread nD τ).loc b)) :
    (unscopedBufs d W : sProp 𝕄)
      = iprop((aLoc d ↦{fullShare} W main_arg0) ∗ (xLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The arrays at the launch; before the call; after it; at the end. -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) o' (wide m d)
def V3 (d : Dev nD) : Valuation τ sig (Elt F) := (opOut (F := F)).result (V2 m d)

/-- At the launch the host program holds its four arrays at the memory's contents. -/
theorem unscoped_held (d : Dev nD) : (unscopedBufs d (fun b => m ((SparseCore.T d).loc b)) : sProp 𝕄) = held (SparseCore.T d) S4 (V0 m d) := by
  rw [unscopedBufs_eq, held_S4]; rfl

/-- Before the call the operand is as it was. -/
theorem V1_a (d : Dev nD) : V1 m d a' = m (aLoc d) :=
  (opIn (F := F)).result_of_not_mem _ (show a' ∉ ({x'} : Finset (DevRef τ sig)) by decide)
/-- Before the call the reshape of the operand holds the operand at 128 columns. -/
theorem V1_x (d : Dev nD) : V1 m d x' = wide m d := StableHlo.reshape_result _ _ _ _ _ _ _
/-- The call leaves the operand as it was. -/
theorem V2_a (d : Dev nD) : V2 m d a' = V1 m d a' := Function.update_of_ne (show a' ≠ o' by decide) _ _
/-- The call leaves the reshape of the operand as it was. -/
theorem V2_x (d : Dev nD) : V2 m d x' = V1 m d x' := Function.update_of_ne (show x' ≠ o' by decide) _ _
/-- After the call its result holds the operand at 128 columns. -/
theorem V2_o (d : Dev nD) : V2 m d o' = wide m d := Function.update_self _ _ _
/-- The call leaves the program's result as it was. -/
theorem V2_r (d : Dev nD) : V2 m d r' = V1 m d r' := Function.update_of_ne (show r' ≠ o' by decide) _ _
/-- At the end the operand is as it was. -/
theorem V3_a (d : Dev nD) : V3 m d a' = m (aLoc d) :=
  ((opOut (F := F)).result_of_not_mem _ (show a' ∉ ({r'} : Finset (DevRef τ sig)) by decide)).trans ((V2_a m d).trans (V1_a m d))

/-- Reshaping to 128 columns and back is the operand again. -/
theorem V3_r (d : Dev nD) : V3 m d r' = m (aLoc d) := by
  refine (StableHlo.reshape_result _ _ _ _ _ _ _).trans ?_
  funext y
  show V2 m d o' (Shape.reshapeEquiv _ y) = m (aLoc d) y
  rw [V2_o]
  show m (aLoc d) (Shape.reshapeEquiv _ (Shape.reshapeEquiv _ y)) = m (aLoc d) y
  rw [Shape.reshapeEquiv_reshapeEquiv, Shape.reshapeEquiv_self]

/-- The first reshape touches only the four arrays. -/
theorem hIn : (opIn (F := F)).bufs ⊆ S4 := show ({a', x'} : Finset (DevRef τ sig)) ⊆ S4 by decide
/-- The second reshape touches only the four arrays. -/
theorem hOut : (opOut (F := F)).bufs ⊆ S4 := show ({o', r'} : Finset (DevRef τ sig)) ⊆ S4 by decide

/-- What the call takes is every subcore's pieces, to be copied. -/
theorem st_eq (d : Dev nD) : (bigSep Finset.univ fun c : Fin ((K (F := F)).nCore 0) => (P m).st 0 d c)
    = bigSep Finset.univ fun c : Fin (grid0.bound 0) => bigSep (Finset.Ico 0 25) (todo d (coords c) (wide m d)) := rfl
/-- What the call gives back is every subcore's pieces, copied. -/
theorem dn_eq (d : Dev nD) : (bigSep Finset.univ fun c : Fin ((K (F := F)).nCore 0) => (P m).dn 0 d c)
    = bigSep Finset.univ fun c : Fin (grid0.bound 0) => bigSep (Finset.Ico 0 25) (done d (coords c) (wide m d)) := rfl

/-- What the host program leaves: the operand as it was, the result equal to it. -/
abbrev FIN (d : Dev nD) : sProp 𝕄 := iprop((aLoc d ↦{fullShare} m (aLoc d)) ∗ rLoc d ↦{fullShare} (m (aLoc d) : S1000000x32.Idx → Elt F .f32))

/-- The host program on device `d`: the reshape, the call, the reshape back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S4) hIn (V := V0 m d)) $$ [Hb Hheld]
  · isplitl [Hb] <;> iassumption
  iintro ⟨Hb, Hheld⟩
  rw [wp_ret]; imodintro
  ihave Hh := (Entails.of_eq (show held (SparseCore.T d) S4 ((opIn (F := F)).result (V0 m d)) = _ from held_S4 (F := F) d (V1 m d))) $$ Hheld
  icases Hh with ⟨Ha, Hx, Ho, Hr⟩
  ihave Hx' := (Entails.of_eq (congrArg (fun f => (xLoc d ↦{fullShare} f : sProp 𝕄)) (V1_x m d))) $$ Hx
  iapply ((K (F := F)).wp_run (D (F := F)) 𝒱 (EH := EH) (P := P m) κ d 0) $$ [Hst Hx' Ho Hb Ha Hr Hts]
  isplitr; · iexact Hctx
  isplitl [Hst]; · iexact Hst
  isplitl [Hx' Ho]
  · rw [st_eq]
    iapply (todo_of_whole d (wide m d) (V1 m d o'))
    isplitl [Hx'] <;> iassumption
  iintro ⟨Hst, Hdn⟩
  ihave Hdn' := (Entails.of_eq ((dn_eq m d).trans (whole_of_done d (wide m d)))) $$ Hdn
  icases Hdn' with ⟨Hx, Ho⟩
  iapply (wp_hlo_within 𝒱 (SparseCore.T d) none Set.univ (op := opOut) (S := S4) hOut (V := V2 m d)) $$ [Hb Ha Hx Ho Hr]
  · isplitl [Hb]; · iexact Hb
    rw [held_S4, V2_a, V2_x, V2_o, V2_r, V1_x]
    isplitl [Ha]; · iexact Ha
    isplitl [Hx]; · iexact Hx
    isplitl [Ho] <;> iassumption
  iintro ⟨Hb, Hheld⟩
  ihave Hh := (Entails.of_eq (show held (SparseCore.T d) S4 ((opOut (F := F)).result (V2 m d)) = _ from held_S4 (F := F) d (V3 m d))) $$ Hheld
  icases Hh with ⟨Ha, -, -, Hr⟩
  rw [wp_ret]; imodintro; imodintro
  isplitl [Hst]; · iexact Hst
  isplitr [Hb Hts]
  · isplitl [Ha]
    · iapply (Entails.of_eq (congrArg (fun f => (aLoc d ↦{fullShare} f : sProp 𝕄)) (V3_a m d))); iexact Ha
    · iapply (Entails.of_eq (congrArg (fun f => (rLoc d ↦{fullShare} f : sProp 𝕄)) (V3_r m d))); iexact Hr
  isplitl [Hb] <;> iassumption

/-! ## The run -/

/-- What is read of device `d`'s final memory. -/
def fq (d : Dev nD) (s' : Phys nD τ sig (Elt F)) : Prop :=
  s'.mem.mem (rLoc d) = (m (aLoc d) : S1000000x32.Idx → Elt F .f32) ∧ s'.mem.mem (aLoc d) = m (aLoc d)

/-- What the host program leaves says what is read of the final memory. -/
theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (SI_pointsTo_agree (st := s') (ℓ := rLoc d) (I := Finset.univ) (q := fullShare) (f := (m (aLoc d) : S1000000x32.Idx → Elt F .f32))) $$ [HSI Hr]
  · isplitl [HSI] <;> iassumption
  icases H with %hr
  ipureintro; exact ⟨funext fun i => hr i (Finset.mem_univ i), funext fun i => ha i (Finset.mem_univ i)⟩

/-- On every device the result equals the operand and the operand is as it was; every counter is zero. -/
def QC : PUnit × MemSt nD τ sig (Elt F) → Prop := fun r =>
  (∀ c : Dev nD, r.2.mem (rLoc c) = (m (aLoc c) : S1000000x32.Idx → Elt F .f32) ∧ r.2.mem (aLoc c) = m (aLoc c)) ∧ r.2.sem = fun _ => 0

/-- Every execution of the program's threads ends as `QC` says. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof.Copy
-- ==== Proof.Lookup.lean ====
/-
  The reference: the lookup of rows 0, 1, …, 999999 of the table, in order, is the table. Each row number is below
  1000000, so as a signed 32-bit word it is not negative (it is taken as it stands), it lies in the table (no entry is
  replaced by the fill value), and the gather reads that very row.
-/
module

public import proofs.«01_k».proof.Proof.Gen.ReferenceIdeal.Run
public import Idealize.ShloMosaic.Lib.ReduceAll
public import Idealize.ShloMosaic.Lib.WordCmp
public import Idealize.ShloMosaic.Lib.Quiescent
public import Idealize.ShloMosaic.Adequacy

@[expose] public section

noncomputable section

namespace Cert.Proof.Lookup

open Cert.ReferenceIdeal Cert.ReferenceIdeal.Gen
open Idealize.ShloMosaic Idealize.ShloMosaic.TcCoe Idealize.SL.Sem

variable {F : FTy → Type} [FloatOps F]

/-! ## The row numbers -/

/-- The row numbers 0, 1, …, each replaced by its sum with 1000000 where it is negative. -/
def rows : IVec S1000000 32 :=
  select (cmpi .slt (iotaInDim S1000000 32 0) (broadcastInDim S1000000 ![] bcast_S_S1000000 (constantI S_ 32 0#32)))
    (addi (iotaInDim S1000000 32 0) (broadcastInDim S1000000 ![] bcast_S_S1000000 (constantI S_ 32 1000000#32)))
    (iotaInDim S1000000 32 0)

/-- The row numbers as a column: what the gather takes for its start indices. -/
def column : IVec S1000000x1 32 := broadcastInDim S1000000x1 ![0] bcast_S1000000_S1000000x1_0 rows

/-- No row number is negative, so entry `i` is `i`. -/
theorem rows_apply (i : S1000000.Idx) : rows i = BitVec.ofNat 32 (i 0).val := by
  have hi : (i 0).val < 1000000 := (i 0).isLt
  exact WordCmp.select_of_eq_zero ((WordCmp.cmpi_slt_ofNat_eq_zero_iff (w := 32) (a := (i 0).val) (b := 0)
    (by omega) (by omega)).2 (by omega)) _ _

/-- Entry `(i, 0)` of the column is `i`. -/
theorem column_apply (i : S1000000x1.Idx) : column i = BitVec.ofNat 32 (i 0).val := rows_apply _

/-- Every entry of the column names a row of the table: it is at least 0 and at most 999999. -/
theorem within (i : S1000000x1.Idx) :
    andi (cmpi .sge column (broadcastInDim S1000000x1 ![] bcast_S_S1000000x1 (constantI S_ 32 0#32)))
      (cmpi .sle column (broadcastInDim S1000000x1 ![0, 1] bcast_S1x1_S1000000x1_0_1
        (broadcastInDim S1x1 ![1] bcast_S1_S1x1_1 (constantI S1 32 999999#32)))) i = 1#1 := by
  have hi : (i 0).val < 1000000 := (i 0).isLt
  show IntOp.andi (IntOp.cmpi .sge (column i) 0#32) (IntOp.cmpi .sle (column i) 999999#32) = 1#1
  rw [column_apply]
  exact IntOp.andi_eq_one.2 ⟨(WordCmp.cmpi_sge_ofNat_eq_one_iff (w := 32) (b := 0) (by omega) (by omega)).2 (by omega),
    (WordCmp.cmpi_sle_ofNat_eq_one_iff (w := 32) (b := 999999) (by omega) (by omega)).2 (by omega)⟩

/-! ## The gather -/

/-- The place of the column that the gather reads for row `j 0` of its result. -/
def place (j : S1000000x32.Idx) : S1000000x1.Idx :=
  fun a => match a with | ⟨0, _⟩ => ⟨(j 0).val, (j 0).isLt⟩ | ⟨1, _⟩ => ⟨0, Nat.one_pos⟩

/-- The dimension numbers of the gather: whole rows, one row number for each. -/
abbrev dims : GatherDims S1000000x32 S1000000x1 S1000000x32 := gather_S1000000x32_S1000000x1_S1000000x32_1_0_n_n_0_1_132

/-- Where the gather's row number at place `j` is `j`'s own row, the gather reads the table at `j`. -/
theorem gather_apply {α : Type} (x : S1000000x32.Idx → α) (idx : IVec S1000000x1 32) (j : S1000000x32.Idx)
    (h : (idx (place j)).toInt.toNat = (j 0).val) : Host.gather dims x idx j = x j := by
  have h0 : (j 0).val < 1000000 := (j 0).isLt
  unfold Host.gather
  congr 1
  funext a
  refine Fin.ext ?_
  show dims.start j idx a + dims.batchCoord j a + dims.offCoord j a = _
  rw [GatherDims.batchCoord_eq_zero _ _ _ List.not_mem_nil, Nat.add_zero]
  have h01 : a = 0 ∨ a = 1 := match a with | ⟨0, _⟩ => Or.inl rfl | ⟨1, _⟩ => Or.inr rfl
  rcases h01 with rfl | rfl
  · rw [GatherDims.offCoord_eq_zero _ _ _ (fun hk => ((GatherDims.mem_sKept _ _).mp hk).1 (List.mem_singleton.mpr rfl)), Nat.add_zero]
    unfold GatherDims.start
    rw [dif_pos (show (0 : Fin 2) ∈ dims.startIndexMap from List.mem_singleton.mpr rfl)]
    have hp : dims.siIdx j ⟨List.idxOf (0 : Fin 2) dims.startIndexMap,
        List.idxOf_lt_length_iff.2 (List.mem_singleton.mpr rfl)⟩ = place j := by
      funext b
      refine Fin.ext ?_
      match b with
      | ⟨0, _⟩ => rfl
      | ⟨1, _⟩ => rfl
    rw [hp, h]
    show min (j 0).val 999999 = (j 0).val
    omega
  · unfold GatherDims.start
    rw [dif_neg (show ¬((1 : Fin 2) ∈ dims.startIndexMap) from by decide), Nat.zero_add]
    rfl

/-! ## The value and the run -/

/-- The reference's result, of the table `x`: at every place the table's own entry. -/
theorem value (x : S1000000x32.Idx → Elt F .f32) :
    select (broadcastInDim S1000000x32 ![0] bcast_S1000000_S1000000x32_0
        (Host.reduce IntOp.andi
          (andi (cmpi .sge column (broadcastInDim S1000000x1 ![] bcast_S_S1000000x1 (constantI S_ 32 0#32)))
            (cmpi .sle column (broadcastInDim S1000000x1 ![0, 1] bcast_S1x1_S1000000x1_0_1
              (broadcastInDim S1x1 ![1] bcast_S1_S1x1_1 (constantI S1 32 999999#32)))))
          (constantI S_ 1 1#1) reducesTo_S1000000x1_S1000000_d1 h_S_))
      (Host.gather dims x column)
      (broadcastInDim S1000000x32 ![] bcast_S_S1000000x32 (constant S_ .f32 0x7FC00000#32)) = x := by
  funext j
  have h0 : (j 0).val < 1000000 := (j 0).isLt
  refine (WordCmp.select_of_eq_one (Host.reduce_andi_one _ _ _ _ _ rfl within) _ _).trans (gather_apply x column j ?_)
  have hn : (BitVec.ofNat 32 (j 0).val).toNat = (j 0).val := by
    rw [BitVec.toNat_ofNat]
    exact Nat.mod_eq_of_lt (by omega)
  rw [column_apply]
  show (BitVec.ofNat 32 (j 0).val).toInt.toNat = (j 0).val
  rw [WordCmp.toInt_eq_toNat_of_lt_half (by rw [hn]; omega), hn]
  rfl

/-- The reference's run, at any float values: every execution ends with the result equal to the table, the table
    as it was, and every semaphore's counter at zero. -/
theorem run_main (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_v1) = (m ((c.tc : Thread nD τ).loc main_arg0) : S1000000x32.Idx → Elt F .f32)
        ∧ r.2.mem ((c.tc : Thread nD τ).loc main_arg0) = m ((c.tc : Thread nD τ).loc main_arg0))
      ∧ r.2.sem = fun _ => 0 :=
  (θ_run defs _ _).mono (fun r h => ⟨fun c => ⟨(h c).1.trans (value _), (h c).2⟩,
    sem_eq_zero_of_no_sems (by decide) r.2⟩) (Value.run m ρ)

end Cert.Proof.Lookup

end
-- ==== Proof.lean ====
/-
  The proof of `Cert.Claim` (Defs.lean). The kernel has one run, `Copy.run_main` (Proof/Launch.lean), stated over any
  float values; the reference has one, `Lookup.run_main` (Proof/Lookup.lean). Each says that the result is the table,
  that the table is unchanged and that every semaphore's counter is zero. The four frames and the two comparisons
  are those two runs, taken at the machine's own floats and at extended reals.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.ReferenceIdeal.Run
public import proofs.«01_k».proof.Proof.Launch
public import proofs.«01_k».proof.Proof.Lookup
public import Idealize.ShloMosaic.Adequacy
public import Idealize.ShloMosaic.Init

@[expose] public section

noncomputable section

namespace Cert.Proof

open Idealize.ShloMosaic Idealize.SL.Sem Cert.Kernel

/-- The kernel at the machine's own floats: every execution ends, the table unchanged and every counter at zero. -/
theorem frame_p : Cert.quiescent_Kernel := fun m ρ _ =>
  (θ_run Cert.KernelIdeal.defs _ _).mono (fun _ h => ⟨fun c => (h.1 c).2, h.2⟩) (Copy.run_main (F := Bits) m ρ)

/-- The kernel at extended reals: the same. -/
theorem frame_pi : Cert.quiescent_KernelIdeal := fun m ρ _ =>
  (θ_run Cert.KernelIdeal.defs _ _).mono (fun _ h => ⟨fun c => (h.1 c).2, h.2⟩) (Copy.run_main (F := Ideal) m ρ)

/-- The reference at extended reals: every execution ends, the table unchanged and every counter at zero. -/
theorem frame_ri : Cert.quiescent_ReferenceIdeal := fun m ρ _ =>
  (θ_run Cert.ReferenceIdeal.defs _ _).mono (fun _ h => ⟨fun c => (h.1 c).2, h.2⟩) (Lookup.run_main (F := Ideal) m ρ)

/-- The reference at the machine's own floats: the same. -/
theorem frame_r : Cert.quiescent_Reference := fun m ρ _ =>
  (θ_run Cert.ReferenceIdeal.defs _ _).mono (fun _ h => ⟨fun c => (h.1 c).2, h.2⟩) (Lookup.run_main (F := Bits) m ρ)

/-- From one table, the kernel and the reference at extended reals both end with that table for their result. -/
theorem algebraic : Cert.algebraic_KernelIdeal_ReferenceIdeal := fun m ρ m' ρ' _ hx =>
  ⟨fun c => m (Copy.aLoc c),
    (θ_run Cert.KernelIdeal.defs _ _).mono (fun _ h => h.1) (Copy.run_main (F := Ideal) m ρ),
    (θ_run Cert.ReferenceIdeal.defs _ _).mono (fun _ h c => ⟨(h.1 c).1.trans (hx c), (h.1 c).2⟩) (Lookup.run_main (F := Ideal) m' ρ')⟩

/-- From one table, the kernel and the reference at the machine's own floats both end with that table, bit for bit. -/
theorem bitexact : Cert.bitexact_Kernel_Reference := fun m ρ m' ρ' _ hx =>
  ⟨fun c => m (Copy.aLoc c),
    (θ_run Cert.KernelIdeal.defs _ _).mono (fun _ h => h.1) (Copy.run_main (F := Bits) m ρ),
    (θ_run Cert.ReferenceIdeal.defs _ _).mono (fun _ h c => ⟨(h.1 c).1.trans (hx c), (h.1 c).2⟩) (Lookup.run_main (F := Bits) m' ρ')⟩

/-- The certificate's claim: the four frames, the idealization's one condition (none: nothing is rewritten) and the two
    comparisons of results. -/
theorem claim : Cert.Claim :=
  ⟨Cert.Kernel.Gen.facts, Cert.KernelIdeal.Gen.facts, Cert.ReferenceIdeal.Gen.facts, Cert.Reference.Gen.facts,
    frame_p, frame_pi, frame_ri, frame_r, trivial, algebraic, bitexact⟩

end Cert.Proof

end
